-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x512x512 : Shape := ⟨4, ![8, 1, 512, 512]⟩
abbrev S1x1 : Shape := ⟨2, ![1, 1]⟩
abbrev S2x1x512x512 : Shape := ⟨4, ![2, 1, 512, 512]⟩
abbrev S1024x512 : Shape := ⟨2, ![1024, 512]⟩
abbrev S1x1024x512 : Shape := ⟨3, ![1, 1024, 512]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 4
  | .smem => 1
  | _ => 0

abbrev bufTy : (tb : Table) → Fin (tcTables nBuf tb) → BufTy
  | .hbm, ⟨0, _⟩ => ⟨S8x1x512x512, .f32⟩
  | .hbm, ⟨1, _⟩ => ⟨S8x1x512x512, .f32⟩
  | .hbm, ⟨2, _⟩ => ⟨S1x1, .f32⟩
  | .hbm, ⟨3, _⟩ => ⟨S_, .f32⟩
  | .local _ .vmem, ⟨0, _⟩ => ⟨S2x1x512x512, .f32⟩
  | .local _ .vmem, ⟨1, _⟩ => ⟨S2x1x512x512, .f32⟩
  | .local _ .vmem, ⟨2, _⟩ => ⟨S2x1x512x512, .f32⟩
  | .local _ .vmem, ⟨3, _⟩ => ⟨S2x1x512x512, .f32⟩
  | .local _ .smem, ⟨0, _⟩ => ⟨S1x1, .f32⟩
  | _, _ => ⟨S8x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8x1x512x512 : Shape := ⟨4, ![8, 1, 512, 512]⟩
abbrev S_ : Shape := ⟨0, ![]⟩
abbrev S1x1x3x3 : Shape := ⟨4, ![1, 1, 3, 3]⟩
abbrev S8x1x514x514 : Shape := ⟨4, ![8, 1, 514, 514]⟩
abbrev S1x1x1x1 : Shape := ⟨4, ![1, 1, 1, 1]⟩

abbrev nBuf : Space → Nat
  | .hbm => 285
  | .vmem => 0
  | .smem => 0
  | _ => 0

abbrev hbmTy0_0 (i : Nat) : BufTy := match i % 128 with
  | 0 => ⟨S8x1x512x512, .f32⟩
  | 1 => ⟨S8x1x512x512, .f32⟩
  | 2 => ⟨S8x1x512x512, .f32⟩
  | 3 => ⟨S8x1x512x512, .f32⟩
  | 4 => ⟨S_, .f32⟩
  | 5 => ⟨S8x1x512x512, .f32⟩
  | 6 => ⟨S8x1x512x512, .f32⟩
  | 7 => ⟨S_, .f32⟩
  | 8 => ⟨S8x1x512x512, .f32⟩
  | 9 => ⟨S8x1x512x512, .f32⟩
  | 10 => ⟨S_, .f32⟩
  | 11 => ⟨S8x1x512x512, .f32⟩
  | 12 => ⟨S8x1x512x512, .i1⟩
  | 13 => ⟨S8x1x512x512, .f32⟩
  | 14 => ⟨S_, .f32⟩
  | 15 => ⟨S8x1x512x512, .f32⟩
  | 16 => ⟨S8x1x512x512, .i1⟩
  | 17 => ⟨S8x1x512x512, .f32⟩
  | 18 => ⟨S_, .f32⟩
  | 19 => ⟨S1x1x3x3, .f32⟩
  | 20 => ⟨S_, .i32⟩
  | 21 => ⟨S_, .f32⟩
  | 22 => ⟨S8x1x514x514, .f32⟩
  | 23 => ⟨S_, .f32⟩
  | 24 => ⟨S8x1x512x512, .f32⟩
  | 25 => ⟨S1x1x1x1, .f32⟩
  | 26 => ⟨S_, .f32⟩
  | 27 => ⟨S8x1x512x512, .f32⟩
  | 28 => ⟨S8x1x512x512, .f32⟩
  | 29 => ⟨S8x1x512x512, .f32⟩
  | 30 => ⟨S8x1x512x512, .f32⟩
  | 31 => ⟨S1x1x1x1, .f32⟩
  | 32 => ⟨S_, .f32⟩
  | 33 => ⟨S8x1x512x512, .f32⟩
  | 34 => ⟨S8x1x512x512, .f32⟩
  | 35 => ⟨S8x1x512x512, .f32⟩
  | 36 => ⟨S8x1x512x512, .f32⟩
  | 37 => ⟨S1x1x1x1, .f32⟩
  | 38 => ⟨S_, .f32⟩
  | 39 => ⟨S8x1x512x512, .f32⟩
  | 40 => ⟨S8x1x512x512, .f32⟩
  | 41 => ⟨S8x1x512x512, .f32⟩
  | 42 => ⟨S8x1x512x512, .f32⟩
  | 43 => ⟨S1x1x1x1, .f32⟩
  | 44 => ⟨S_, .f32⟩
  | 45 => ⟨S8x1x512x512, .f32⟩
  | 46 => ⟨S8x1x512x512, .f32⟩
  | 47 => ⟨S8x1x512x512, .f32⟩
  | 48 => ⟨S8x1x512x512, .f32⟩
  | 49 => ⟨S1x1x1x1, .f32⟩
  | 50 => ⟨S_, .f32⟩
  | 51 => ⟨S8x1x512x512, .f32⟩
  | 52 => ⟨S8x1x512x512, .f32⟩
  | 53 => ⟨S8x1x512x512, .f32⟩
  | 54 => ⟨S8x1x512x512, .f32⟩
  | 55 => ⟨S1x1x1x1, .f32⟩
  | 56 => ⟨S_, .f32⟩
  | 57 => ⟨S8x1x512x512, .f32⟩
  | 58 => ⟨S8x1x512x512, .f32⟩
  | 59 => ⟨S8x1x512x512, .f32⟩
  | 60 => ⟨S8x1x512x512, .f32⟩
  | 61 => ⟨S1x1x1x1, .f32⟩
  | 62 => ⟨S_, .f32⟩
  | 63 => ⟨S8x1x512x512, .f32⟩
  | 64 => ⟨S8x1x512x512, .f32⟩
  | 65 => ⟨S8x1x512x512, .f32⟩
  | 66 => ⟨S8x1x512x512, .f32⟩
  | 67 => ⟨S1x1x1x1, .f32⟩
  | 68 => ⟨S_, .f32⟩
  | 69 => ⟨S8x1x512x512, .f32⟩
  | 70 => ⟨S8x1x512x512, .f32⟩
  | 71 => ⟨S8x1x512x512, .f32⟩
  | 72 => ⟨S8x1x512x512, .f32⟩
  | 73 => ⟨S1x1x1x1, .f32⟩
  | 74 => ⟨S_, .f32⟩
  | 75 => ⟨S8x1x512x512, .f32⟩
  | 76 => ⟨S8x1x512x512, .f32⟩
  | 77 => ⟨S8x1x512x512, .f32⟩
  | 78 => ⟨S8x1x512x512, .f32⟩
  | 79 => ⟨S_, .f32⟩
  | 80 => ⟨S1x1x3x3, .f32⟩
  | 81 => ⟨S_, .i32⟩
  | 82 => ⟨S_, .f32⟩
  | 83 => ⟨S8x1x514x514, .f32⟩
  | 84 => ⟨S_, .f32⟩
  | 85 => ⟨S8x1x512x512, .f32⟩
  | 86 => ⟨S1x1x1x1, .f32⟩
  | 87 => ⟨S_, .f32⟩
  | 88 => ⟨S8x1x512x512, .f32⟩
  | 89 => ⟨S8x1x512x512, .f32⟩
  | 90 => ⟨S8x1x512x512, .f32⟩
  | 91 => ⟨S8x1x512x512, .f32⟩
  | 92 => ⟨S1x1x1x1, .f32⟩
  | 93 => ⟨S_, .f32⟩
  | 94 => ⟨S8x1x512x512, .f32⟩
  | 95 => ⟨S8x1x512x512, .f32⟩
  | 96 => ⟨S8x1x512x512, .f32⟩
  | 97 => ⟨S8x1x512x512, .f32⟩
  | 98 => ⟨S1x1x1x1, .f32⟩
  | 99 => ⟨S_, .f32⟩
  | 100 => ⟨S8x1x512x512, .f32⟩
  | 101 => ⟨S8x1x512x512, .f32⟩
  | 102 => ⟨S8x1x512x512, .f32⟩
  | 103 => ⟨S8x1x512x512, .f32⟩
  | 104 => ⟨S1x1x1x1, .f32⟩
  | 105 => ⟨S_, .f32⟩
  | 106 => ⟨S8x1x512x512, .f32⟩
  | 107 => ⟨S8x1x512x512, .f32⟩
  | 108 => ⟨S8x1x512x512, .f32⟩
  | 109 => ⟨S8x1x512x512, .f32⟩
  | 110 => ⟨S1x1x1x1, .f32⟩
  | 111 => ⟨S_, .f32⟩
  | 112 => ⟨S8x1x512x512, .f32⟩
  | 113 => ⟨S8x1x512x512, .f32⟩
  | 114 => ⟨S8x1x512x512, .f32⟩
  | 115 => ⟨S8x1x512x512, .f32⟩
  | 116 => ⟨S1x1x1x1, .f32⟩
  | 117 => ⟨S_, .f32⟩
  | 118 => ⟨S8x1x512x512, .f32⟩
  | 119 => ⟨S8x1x512x512, .f32⟩
  | 120 => ⟨S8x1x512x512, .f32⟩
  | 121 => ⟨S8x1x512x512, .f32⟩
  | 122 => ⟨S1x1x1x1, .f32⟩
  | 123 => ⟨S_, .f32⟩
  | 124 => ⟨S8x1x512x512, .f32⟩
  | 125 => ⟨S8x1x512x512, .f32⟩
  | 126 => ⟨S8x1x512x512, .f32⟩
  | 127 => ⟨S8x1x512x512, .f32⟩
  | _ => ⟨S8x1x512x512, .f32⟩

abbrev hbmTy0_1 (i : Nat) : BufTy := match i % 128 with
  | 0 => ⟨S1x1x1x1, .f32⟩
  | 1 => ⟨S_, .f32⟩
  | 2 => ⟨S8x1x512x512, .f32⟩
  | 3 => ⟨S8x1x512x512, .f32⟩
  | 4 => ⟨S8x1x512x512, .f32⟩
  | 5 => ⟨S8x1x512x512, .f32⟩
  | 6 => ⟨S1x1x1x1, .f32⟩
  | 7 => ⟨S_, .f32⟩
  | 8 => ⟨S8x1x512x512, .f32⟩
  | 9 => ⟨S8x1x512x512, .f32⟩
  | 10 => ⟨S8x1x512x512, .f32⟩
  | 11 => ⟨S8x1x512x512, .f32⟩
  | 12 => ⟨S8x1x512x512, .f32⟩
  | 13 => ⟨S_, .f32⟩
  | 14 => ⟨S8x1x512x512, .f32⟩
  | 15 => ⟨S_, .f32⟩
  | 16 => ⟨S8x1x512x512, .f32⟩
  | 17 => ⟨S8x1x512x512, .f32⟩
  | 18 => ⟨S8x1x512x512, .f32⟩
  | 19 => ⟨S_, .f32⟩
  | 20 => ⟨S1x1x3x3, .f32⟩
  | 21 => ⟨S_, .i32⟩
  | 22 => ⟨S_, .f32⟩
  | 23 => ⟨S8x1x514x514, .f32⟩
  | 24 => ⟨S_, .f32⟩
  | 25 => ⟨S8x1x512x512, .f32⟩
  | 26 => ⟨S1x1x1x1, .f32⟩
  | 27 => ⟨S_, .f32⟩
  | 28 => ⟨S8x1x512x512, .f32⟩
  | 29 => ⟨S8x1x512x512, .f32⟩
  | 30 => ⟨S8x1x512x512, .f32⟩
  | 31 => ⟨S8x1x512x512, .f32⟩
  | 32 => ⟨S1x1x1x1, .f32⟩
  | 33 => ⟨S_, .f32⟩
  | 34 => ⟨S8x1x512x512, .f32⟩
  | 35 => ⟨S8x1x512x512, .f32⟩
  | 36 => ⟨S8x1x512x512, .f32⟩
  | 37 => ⟨S8x1x512x512, .f32⟩
  | 38 => ⟨S1x1x1x1, .f32⟩
  | 39 => ⟨S_, .f32⟩
  | 40 => ⟨S8x1x512x512, .f32⟩
  | 41 => ⟨S8x1x512x512, .f32⟩
  | 42 => ⟨S8x1x512x512, .f32⟩
  | 43 => ⟨S8x1x512x512, .f32⟩
  | 44 => ⟨S1x1x1x1, .f32⟩
  | 45 => ⟨S_, .f32⟩
  | 46 => ⟨S8x1x512x512, .f32⟩
  | 47 => ⟨S8x1x512x512, .f32⟩
  | 48 => ⟨S8x1x512x512, .f32⟩
  | 49 => ⟨S8x1x512x512, .f32⟩
  | 50 => ⟨S1x1x1x1, .f32⟩
  | 51 => ⟨S_, .f32⟩
  | 52 => ⟨S8x1x512x512, .f32⟩
  | 53 => ⟨S8x1x512x512, .f32⟩
  | 54 => ⟨S8x1x512x512, .f32⟩
  | 55 => ⟨S8x1x512x512, .f32⟩
  | 56 => ⟨S1x1x1x1, .f32⟩
  | 57 => ⟨S_, .f32⟩
  | 58 => ⟨S8x1x512x512, .f32⟩
  | 59 => ⟨S8x1x512x512, .f32⟩
  | 60 => ⟨S8x1x512x512, .f32⟩
  | 61 => ⟨S8x1x512x512, .f32⟩
  | 62 => ⟨S1x1x1x1, .f32⟩
  | 63 => ⟨S_, .f32⟩
  | 64 => ⟨S8x1x512x512, .f32⟩
  | 65 => ⟨S8x1x512x512, .f32⟩
  | 66 => ⟨S8x1x512x512, .f32⟩
  | 67 => ⟨S8x1x512x512, .f32⟩
  | 68 => ⟨S1x1x1x1, .f32⟩
  | 69 => ⟨S_, .f32⟩
  | 70 => ⟨S8x1x512x512, .f32⟩
  | 71 => ⟨S8x1x512x512, .f32⟩
  | 72 => ⟨S8x1x512x512, .f32⟩
  | 73 => ⟨S8x1x512x512, .f32⟩
  | 74 => ⟨S1x1x1x1, .f32⟩
  | 75 => ⟨S_, .f32⟩
  | 76 => ⟨S8x1x512x512, .f32⟩
  | 77 => ⟨S8x1x512x512, .f32⟩
  | 78 => ⟨S8x1x512x512, .f32⟩
  | 79 => ⟨S8x1x512x512, .f32⟩
  | 80 => ⟨S_, .f32⟩
  | 81 => ⟨S1x1x3x3, .f32⟩
  | 82 => ⟨S_, .i32⟩
  | 83 => ⟨S_, .f32⟩
  | 84 => ⟨S8x1x514x514, .f32⟩
  | 85 => ⟨S_, .f32⟩
  | 86 => ⟨S8x1x512x512, .f32⟩
  | 87 => ⟨S1x1x1x1, .f32⟩
  | 88 => ⟨S_, .f32⟩
  | 89 => ⟨S8x1x512x512, .f32⟩
  | 90 => ⟨S8x1x512x512, .f32⟩
  | 91 => ⟨S8x1x512x512, .f32⟩
  | 92 => ⟨S8x1x512x512, .f32⟩
  | 93 => ⟨S1x1x1x1, .f32⟩
  | 94 => ⟨S_, .f32⟩
  | 95 => ⟨S8x1x512x512, .f32⟩
  | 96 => ⟨S8x1x512x512, .f32⟩
  | 97 => ⟨S8x1x512x512, .f32⟩
  | 98 => ⟨S8x1x512x512, .f32⟩
  | 99 => ⟨S1x1x1x1, .f32⟩
  | 100 => ⟨S_, .f32⟩
  | 101 => ⟨S8x1x512x512, .f32⟩
  | 102 => ⟨S8x1x512x512, .f32⟩
  | 103 => ⟨S8x1x512x512, .f32⟩
  | 104 => ⟨S8x1x512x512, .f32⟩
  | 105 => ⟨S1x1x1x1, .f32⟩
  | 106 => ⟨S_, .f32⟩
  | 107 => ⟨S8x1x512x512, .f32⟩
  | 108 => ⟨S8x1x512x512, .f32⟩
  | 109 => ⟨S8x1x512x512, .f32⟩
  | 110 => ⟨S8x1x512x512, .f32⟩
  | 111 => ⟨S1x1x1x1, .f32⟩
  | 112 => ⟨S_, .f32⟩
  | 113 => ⟨S8x1x512x512, .f32⟩
  | 114 => ⟨S8x1x512x512, .f32⟩
  | 115 => ⟨S8x1x512x512, .f32⟩
  | 116 => ⟨S8x1x512x512, .f32⟩
  | 117 => ⟨S1x1x1x1, .f32⟩
  | 118 => ⟨S_, .f32⟩
  | 119 => ⟨S8x1x512x512, .f32⟩
  | 120 => ⟨S8x1x512x512, .f32⟩
  | 121 => ⟨S8x1x512x512, .f32⟩
  | 122 => ⟨S8x1x512x512, .f32⟩
  | 123 => ⟨S1x1x1x1, .f32⟩
  | 124 => ⟨S_, .f32⟩
  | 125 => ⟨S8x1x512x512, .f32⟩
  | 126 => ⟨S8x1x512x512, .f32⟩
  | 127 => ⟨S8x1x512x512, .f32⟩
  | _ => ⟨S8x1x512x512, .f32⟩

abbrev hbmTy0_2 (i : Nat) : BufTy := match i % 128 with
  | 0 => ⟨S8x1x512x512, .f32⟩
  | 1 => ⟨S1x1x1x1, .f32⟩
  | 2 => ⟨S_, .f32⟩
  | 3 => ⟨S8x1x512x512, .f32⟩
  | 4 => ⟨S8x1x512x512, .f32⟩
  | 5 => ⟨S8x1x512x512, .f32⟩
  | 6 => ⟨S8x1x512x512, .f32⟩
  | 7 => ⟨S1x1x1x1, .f32⟩
  | 8 => ⟨S_, .f32⟩
  | 9 => ⟨S8x1x512x512, .f32⟩
  | 10 => ⟨S8x1x512x512, .f32⟩
  | 11 => ⟨S8x1x512x512, .f32⟩
  | 12 => ⟨S8x1x512x512, .f32⟩
  | 13 => ⟨S8x1x512x512, .f32⟩
  | 14 => ⟨S_, .f32⟩
  | 15 => ⟨S8x1x512x512, .f32⟩
  | 16 => ⟨S_, .f32⟩
  | 17 => ⟨S8x1x512x512, .f32⟩
  | 18 => ⟨S8x1x512x512, .f32⟩
  | 19 => ⟨S8x1x512x512, .f32⟩
  | 20 => ⟨S8x1x512x512, .f32⟩
  | 21 => ⟨S8x1x512x512, .f32⟩
  | 22 => ⟨S_, .f32⟩
  | 23 => ⟨S8x1x512x512, .f32⟩
  | 24 => ⟨S8x1x512x512, .f32⟩
  | 25 => ⟨S_, .f32⟩
  | 26 => ⟨S_, .f32⟩
  | 27 => ⟨S_, .f32⟩
  | 28 => ⟨S_, .f32⟩
  | _ => ⟨S8x1x512x512, .f32⟩

abbrev hbmTy (i : Nat) : BufTy := match i / 128 with
  | 0 => hbmTy0_0 i
  | 1 => hbmTy0_1 i
  | 2 => hbmTy0_2 i
  | _ => ⟨S8x1x512x512, .f32⟩

abbrev bufTy : (tb : Table) → Fin (tcTables nBuf tb) → BufTy
  | .hbm, ⟨i, _⟩ => hbmTy i
  | _, _ => ⟨S8x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_5 : Ref sig .tc := ⟨.hbm, 79, rfl⟩
abbrev main_v69 : Ref sig .tc := ⟨.hbm, 80, rfl⟩
abbrev main_c_6 : Ref sig .tc := ⟨.hbm, 81, rfl⟩
abbrev main_call1_v0 : Ref sig .tc := ⟨.hbm, 82, rfl⟩
abbrev main_v70 : Ref sig .tc := ⟨.hbm, 83, rfl⟩
abbrev main_cst_7 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_cst_8 : Ref sig .tc := ⟨.hbm, 141, rfl⟩
abbrev main_v127 : Ref sig .tc := ⟨.hbm, 142, rfl⟩
abbrev main_cst_9 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_cst_10 : Ref sig .tc := ⟨.hbm, 147, rfl⟩
abbrev main_v131 : Ref sig .tc := ⟨.hbm, 148, rfl⟩
abbrev main_c_11 : Ref sig .tc := ⟨.hbm, 149, rfl⟩
abbrev main_call2_v0 : Ref sig .tc := ⟨.hbm, 150, rfl⟩
abbrev main_v132 : Ref sig .tc := ⟨.hbm, 151, rfl⟩
abbrev main_cst_12 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_cst_13 : Ref sig .tc := ⟨.hbm, 208, rfl⟩
abbrev main_v188 : Ref sig .tc := ⟨.hbm, 209, rfl⟩
abbrev main_c_14 : Ref sig .tc := ⟨.hbm, 210, rfl⟩
abbrev main_call3_v0 : Ref sig .tc := ⟨.hbm, 211, rfl⟩
abbrev main_v189 : Ref sig .tc := ⟨.hbm, 212, rfl⟩
abbrev main_cst_15 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_cst_16 : Ref sig .tc := ⟨.hbm, 270, rfl⟩
abbrev main_v246 : Ref sig .tc := ⟨.hbm, 271, rfl⟩
abbrev main_cst_17 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_cst_18 : Ref sig .tc := ⟨.hbm, 278, rfl⟩
abbrev main_v252 : Ref sig .tc := ⟨.hbm, 279, rfl⟩
abbrev main_v253 : Ref sig .tc := ⟨.hbm, 280, rfl⟩
abbrev main_cst_19 : Ref sig .tc := ⟨.hbm, 281, rfl⟩
abbrev main_v254 : Ref sig .tc := ⟨.hbm, 282, rfl⟩
abbrev main_cst_20 : Ref sig .tc := ⟨.hbm, 283, rfl⟩
abbrev main_v255 : Ref sig .tc := ⟨.hbm, 284, rfl⟩

abbrev nD : Nat := 1
abbrev τ : Topo := Topo.v7x

variable {F : FTy → Type} [FloatOps F]
-- ==== Proof.RealValued.lean ====
/-
  Arrays of extended reals that hold no infinity.

  The problem's boundary map is `dilated - eroded`, two copies of one convolution of a 0/1 mask. Over the extended
  reals a difference `x - x` is zero only where `x` is finite, so both the kernel's and the reference's maps need
  the fact that what they subtract is finite. It is stated here once: masks are real valued, and every operation
  between the masks and the difference keeps arrays real valued.
-/
module

public import Idealize.ShloMosaic.PureOps.Ideal
public import Idealize.ShloMosaic.Lib.Pointwise

@[expose] public section

noncomputable section

namespace Cert.Loss

open Idealize.ShloMosaic

variable {s t u : Shape} {φ : FTy}

/-- Every element of the array is a real number. -/
def RealValued (x : FVec Ideal s φ) : Prop := ∃ r : s.Idx → ℝ, ∀ i, x i = ((r i : ℝ) : EReal)

/-- An array of integers converted to floats is real valued: signed reading. -/
theorem RealValued.sitofp {w : Nat} (x : IVec s w) : RealValued (sitofp (F := Ideal) φ x) :=
  ⟨fun i => ((x i).toInt : ℝ), fun _ => rfl⟩

/-- An array of integers converted to floats is real valued: unsigned reading. -/
theorem RealValued.uitofp {w : Nat} (x : IVec s w) : RealValued (uitofp (F := Ideal) φ x) :=
  ⟨fun i => ((x i).toNat : ℝ), fun _ => rfl⟩

/-- Narrowing changes nothing over the reals. -/
theorem RealValued.truncf {ψ : FTy} {x : FVec Ideal s φ} (h : ψ.bits < φ.bits) (hx : RealValued x) :
    RealValued (truncf ψ x h) :=
  let ⟨r, hr⟩ := hx; ⟨r, fun i => (hr i)⟩

theorem RealValued.addf {x y : FVec Ideal s φ} (hx : RealValued x) (hy : RealValued y) : RealValued (addf x y) :=
  let ⟨r, hr⟩ := hx; let ⟨q, hq⟩ := hy
  ⟨fun i => r i + q i, fun i => by rw [EReal.coe_add, ← hr, ← hq]; rfl⟩

theorem RealValued.subf {x y : FVec Ideal s φ} (hx : RealValued x) (hy : RealValued y) : RealValued (subf x y) :=
  let ⟨r, hr⟩ := hx; let ⟨q, hq⟩ := hy
  ⟨fun i => r i - q i, fun i => by rw [EReal.coe_sub, ← hr, ← hq]; rfl⟩

theorem RealValued.mulf {x y : FVec Ideal s φ} (hx : RealValued x) (hy : RealValued y) : RealValued (mulf x y) :=
  let ⟨r, hr⟩ := hx; let ⟨q, hq⟩ := hy
  ⟨fun i => r i * q i, fun i => by rw [EReal.coe_mul, ← hr, ← hq]; rfl⟩

/-- Any re-indexing of a real valued array is real valued: a slice, a rotation, a reshape, a broadcast. -/
theorem RealValued.comp {x : FVec Ideal s φ} (hx : RealValued x) (f : t.Idx → s.Idx) :
    RealValued (s := t) (φ := φ) fun j => x (f j) :=
  let ⟨r, hr⟩ := hx; ⟨fun j => r (f j), fun j => hr (f j)⟩

/-- A rotation moves elements within the array. -/
theorem RealValued.dynamicRotate {x : FVec Ideal s φ} (hx : RealValued x) (a : Fin s.rank) (n : BitVec 32)
    (h : s.Rotates a none) : RealValued (dynamicRotate a n none x h) :=
  hx.comp _

/-- A slice reads elements of the array. -/
theorem RealValued.slice {x : FVec Ideal s φ} (hx : RealValued x) (off : Fin s.rank → Nat) (h : s.Slices off t) :
    RealValued (extractStridedSlice t off x h) :=
  hx.comp _

/-- A reshape reads elements of the array. -/
theorem RealValued.shapeCast {x : FVec Ideal s φ} (hx : RealValued x) (h : s.ShapeCasts t) :
    RealValued (shapeCast t x h) :=
  hx.comp _

/-- A broadcast reads elements of the array. -/
theorem RealValued.broadcastInDim {x : FVec Ideal s φ} (hx : RealValued x) (dims : Fin s.rank → Fin t.rank)
    (h : s.BroadcastsInDim t dims) : RealValued (broadcastInDim t dims h x) :=
  hx.comp _

/-- A padded array holds the array's elements and the padding value. -/
theorem RealValued.pad {x : FVec Ideal s φ} {v : FVec Ideal u φ} (hx : RealValued x) (hv : RealValued v)
    (lo hi interior : Fin s.rank → Nat) (h : s.Pads lo hi interior t) (hu : 0 < u.numel) :
    RealValued (pad t lo hi interior x v h hu) := by
  have key : ∀ j, ∃ r : ℝ, Idealize.ShloMosaic.pad t lo hi interior x v h hu j = ((r : ℝ) : EReal) := by
    intro j
    unfold Idealize.ShloMosaic.pad
    split
    · exact ⟨_, hx.choose_spec _⟩
    · exact ⟨_, hv.choose_spec _⟩
  exact ⟨fun j => (key j).choose, fun j => (key j).choose_spec⟩

/-- The literal `0.0` is real. -/
theorem RealValued.zero_f32 : RealValued (constant (F := Ideal) s .f32 0x00000000#32) :=
  ⟨fun _ => 0, fun _ => Ideal.ofBits_zero_f32⟩

/-- The literal `1.0` is real. -/
theorem RealValued.one_f32 : RealValued (constant (F := Ideal) s .f32 0x3F800000#32) :=
  ⟨fun _ => 1, fun _ => Ideal.ofBits_one_f32⟩

/-- A real valued array minus itself is zero everywhere. -/
theorem RealValued.sub_self {x : FVec Ideal s φ} (hx : RealValued x) :
    Idealize.ShloMosaic.subf x x = fun _ => (0 : EReal) := by
  obtain ⟨r, hr⟩ := hx
  funext i
  show (x i - x i : EReal) = 0
  rw [hr i, ← EReal.coe_sub, _root_.sub_self, EReal.coe_zero]

/-- The absolute value of zero. -/
theorem absf_zero : (FloatOps.absf (F := Ideal) (φ := φ) (0 : EReal) : EReal) = 0 := by
  show max (0 : EReal) (-0) = 0
  simp

/-- A total of zeros, started from zero, is zero. -/
theorem reduceAdd_zero {axes : List (Fin s.rank)} (h : s.ReducesTo axes t) {x : s.Idx → EReal} (hx : ∀ i, x i = 0)
    (j : t.Idx) : Ideal.hostReduceAdd h x 0 j = 0 :=
  (zero_add _).trans (Finset.sum_eq_zero fun i _ => hx i)

/-- Zero squared, by the power function. -/
theorem zero_pow_two : Ideal.pow 0 ((2 : ℝ) : EReal) = 0 := by
  show ((Real.rpow 0 2 : ℝ) : EReal) = 0
  rw [Real.rpow_eq_pow, Real.zero_rpow two_ne_zero, EReal.coe_zero]

/-- The number of elements both sides divide by. -/
theorem count_ne_zero : (Ideal.ofBits .f32 0x4A000000#32 : EReal) ≠ 0 := by
  simp [Ideal.ofBits, Ideal.ieee]

/-- The mean of zeros: zero divided by the number of elements. -/
theorem zero_div_count : Ideal.div 0 (Ideal.ofBits .f32 0x4A000000#32) = 0 := by
  rw [Ideal.div, if_neg count_ne_zero, zero_mul]

end Cert.Loss

end
-- ==== Proof.Block.lean ====
/-
  What one grid point of the kernel adds to the running sum, over the extended reals.

  The boundary map of the block's mask difference is zero everywhere (`boundary_eq_zero`), so the distance map is
  zero, and the sum of its squares leaves the running sum where it was (`step_eq`).
-/
module

public import proofs.«01_k».proof.Proof.Gen.KernelIdeal.Skeleton
public import proofs.«01_k».proof.Proof.RealValued

@[expose] public section

noncomputable section

namespace Cert.KernelIdeal.Loss

open Cert.KernelIdeal Cert.KernelIdeal.Gen Cert.Loss Idealize.ShloMosaic

/-- The kernel's 3 × 3 window sum of a real valued block, by rotations along rows and then columns, is real valued. -/
theorem windowSum_real {d : FVec Ideal S1024x512 .bf16} (hd : RealValued d)
    (h0 : S1024x512.Rotates 0 none) (h1 : S1024x512.Rotates 1 none) :
    RealValued
      (addf (addf (addf (addf d (dynamicRotate 0 1#32 none d h0)) (dynamicRotate 0 1023#32 none d h0))
          (dynamicRotate 1 1#32 none
            (addf (addf d (dynamicRotate 0 1#32 none d h0)) (dynamicRotate 0 1023#32 none d h0)) h1))
        (dynamicRotate 1 511#32 none
          (addf (addf d (dynamicRotate 0 1#32 none d h0)) (dynamicRotate 0 1023#32 none d h0)) h1)) :=
  have hs := (hd.addf (hd.dynamicRotate 0 1#32 h0)).addf (hd.dynamicRotate 0 1023#32 h0)
  (hs.addf (hs.dynamicRotate 1 1#32 h1)).addf (hs.dynamicRotate 1 511#32 h1)

/-- The boundary map of a block, dilated minus eroded, is zero: the two window sums are the same and finite. -/
theorem boundary_eq_zero (x y : Vec Ideal S2x1x512x512 .f32) : k0_pay3 x y = fun _ => (0 : EReal) :=
  (windowSum_real (((RealValued.sitofp _).truncf _).subf ((RealValued.sitofp _).truncf _)) _ _).sub_self

/-- With a zero boundary map, the body's update leaves the running sum where it was. -/
theorem step_eq (x y : Vec Ideal S2x1x512x512 .f32) (acc : Elt Ideal .f32) :
    k0_pay1 (k0_pay3 x y) (k0_pay4 (F := Ideal)) acc = acc := by
  rw [boundary_eq_zero]
  unfold k0_pay1 k0_pay4
  dsimp only
  pointwise
  rw [zero_mul, absf_zero]
  simp

/-- The final division by the number of elements takes zero to zero. -/
theorem mean_zero : k0_pay2 (F := Ideal) (0 : EReal) = (0 : EReal) := by
  unfold k0_pay2
  dsimp only
  pointwise
  exact zero_div_count

end Cert.KernelIdeal.Loss

end
-- ==== Proof.Value.lean ====
/-
  The kernel's result over the extended reals: after the run its one result is zero.

  The running sum is zero after every grid point (`outs_zero`); the last point divides it by the number of elements and
  writes it back, and the host reshapes the 1 × 1 array to a scalar.
-/
module

public import proofs.«01_k».proof.Proof.Gen.KernelIdeal.Frame
public import proofs.«01_k».proof.Proof.Block
public import Idealize.ShloMosaic.Lib.Pipeline.ValueKit

@[expose] public section

noncomputable section

namespace Cert.KernelIdeal.Loss

open Cert.KernelIdeal Cert.KernelIdeal.Gen Cert.Loss Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The running sum is zero after every grid point. -/
theorem outs_zero (c : Dev nD) : ∀ (n : ℕ) (hn : n < cfg0.N), outsAt0 m c n hn = fun _ => (0 : EReal) := by
  intro n
  induction n with
  | zero =>
    intro hn
    rw [outsAt0_A m c ⟨0, hn⟩ (by simp) (by simp)]
    frame_out
    rw [step_eq]
    exact funext fun _ => Ideal.ofBits_zero_f32
  | succ n ih =>
    intro hn
    have hN : n + 1 < 4 := lt_of_lt_of_eq hn N_0
    by_cases h : (n + 1) % 4 = 3
    · rw [outsAt0_C m c ⟨n + 1, hn⟩ (by dsimp only; omega) h]
      frame_out
      rw [step_eq, show outsAt0 m c (n + 1 - 1) _ = _ from ih (by omega)]
      exact funext fun _ => mean_zero
    · rw [outsAt0_B m c ⟨n + 1, hn⟩ (by dsimp only; omega) h]
      frame_out
      rw [step_eq, show outsAt0 m c (n + 1 - 1) _ = _ from ih (by omega)]
      rfl

/-- The 1 × 1 result array after the region is zero. -/
theorem arr_zero (c : Dev nD) : (dats m 0 c).arrAt 2 cfg0.N = fun _ => (0 : EReal) := by
  refine (dats m 0 c).arrAt_eq_of_covers 2 _ (by decide +kernel) fun t hf y => ?_
  blk_simp
  rw [after0_2, outs_zero]

/-- After the run the scalar result is zero and the arguments are as launched. -/
theorem run_zero : θ_run defs (onTc (τ := τ) (main (F := Ideal))) ⟨m, fun _ => 0, ρ⟩ fun r => ∀ c : Dev nD,
      r.2.mem ((c.tc : Thread nD τ).loc main_v1) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩)
    (run_main m ρ)
  rw [(h c).2 main_v1 (by decide)]
  have ha := (Pipeline.withArrays_arr (cfgs 0).spec launch0.win.arr_inj c (V0 m c) (fun w => (dats m 0 c).arrAt w (cfgs 0).N) 2).trans
    (arr_zero m c)
  unfold Pipeline.afterTail₀
  simp only [hostOps1, List.flatten_cons, List.flatten_nil, List.append_nil]
  after_results
  exact funext fun i => congrFun (congrArg (fun x => shapeCast (α := EReal) S_ x shapeCasts_S1x1_S_) ha) i

end Cert.KernelIdeal.Loss

end
-- ==== Proof.Reference.lean ====
/-
  The reference's result over the extended reals is zero as well: in each distance transform the dilated and the
  eroded mask are the same convolution of the same mask, so the boundary is zero (`boundary_input`,
  `boundary_target`), and the mean of the differences of two zero distance maps is zero.
-/
module

public import proofs.«01_k».proof.Defs
public import proofs.«01_k».proof.Proof.Gen.ReferenceIdeal
public import proofs.«01_k».proof.Proof.Gen.ReferenceIdeal.Run
public import proofs.«01_k».proof.Proof.RealValued

@[expose] public section

noncomputable section

namespace Cert.ReferenceIdeal.Loss

open Cert.ReferenceIdeal Cert.ReferenceIdeal.Gen Cert.ReferenceIdeal.Value Cert.Loss
open Idealize.ShloMosaic Idealize.ShloMosaic.TcCoe Idealize.SL.Sem Idealize.ShloMosaic.StableHlo

/-- One term of the 3 × 3 convolution: a kernel entry times a shifted window of the padded mask. -/
theorem tap_real {k : FVec Ideal S1x1x3x3 .f32} {p : FVec Ideal S8x1x514x514 .f32} (hk : RealValued k) (hp : RealValued p)
    (o o' : Fin 4 → ℕ) (ho : S1x1x3x3.Slices o S1x1x1x1) (ho' : S8x1x514x514.Slices o' S8x1x512x512) :
    RealValued (mulf (broadcastInDim S8x1x512x512 ![] bcast_S_S8x1x512x512
        (shapeCast S_ (extractStridedSlice S1x1x1x1 o k ho) shapeCasts_S1x1x1x1_S_))
      (extractStridedSlice S8x1x512x512 o' p ho')) :=
  (((hk.slice o ho).shapeCast _).broadcastInDim _ _).mulf (hp.slice o' ho')

/-- The 3 × 3 convolution's kernel of ones. -/
theorem ones_real : RealValued (broadcastInDim S1x1x3x3 ![] bcast_S_S1x1x3x3 (constant (F := Ideal) S_ .f32 0x3F800000#32)) :=
  RealValued.one_f32.broadcastInDim _ _

/-- The convolution's running total starts at zero. -/
theorem start_real : RealValued (broadcastInDim S8x1x512x512 ![] bcast_S_S8x1x512x512 (constant (F := Ideal) S_ .f32 0x00000000#32)) :=
  RealValued.zero_f32.broadcastInDim _ _

/-- A mask padded with zeros is real valued. -/
theorem padded_real {x : FVec Ideal S8x1x512x512 .f32} (hx : RealValued x) :
    RealValued (pad S8x1x514x514 ![0, 0, 1, 1] ![0, 0, 1, 1] ![0, 0, 0, 0] x (sitofp .f32 (constantI S_ 32 0#32))
      pads_S8x1x512x512_S8x1x514x514_000_000_110_110 h_S_) :=
  hx.pad (RealValued.sitofp _) _ _ _ _ _

/-- The boundary of the predicted mask is zero. -/
theorem boundary_input (V : Valuation τ sig (Elt Ideal)) : res_main_v126 V = fun _ => (0 : EReal) := by
  have hk : RealValued (φ := .f32) (res_main_v12 V) := ones_real
  have hp : RealValued (φ := .f32) (res_main_v13 V) := padded_real (RealValued.uitofp _)
  refine RealValued.sub_self (((((((((start_real.addf ?_).addf ?_).addf ?_).addf ?_).addf ?_).addf ?_).addf ?_).addf ?_).addf ?_)
  all_goals exact tap_real hk hp _ _ _ _

/-- The boundary of the target mask is zero. -/
theorem boundary_target (V : Valuation τ sig (Elt Ideal)) : res_main_v245 V = fun _ => (0 : EReal) := by
  have hk : RealValued (φ := .f32) (res_main_v131 V) := ones_real
  have hp : RealValued (φ := .f32) (res_main_v132 V) := padded_real (RealValued.uitofp _)
  refine RealValued.sub_self (((((((((start_real.addf ?_).addf ?_).addf ?_).addf ?_).addf ?_).addf ?_).addf ?_).addf ?_).addf ?_)
  all_goals exact tap_real hk hp _ _ _ _

/-- The literal `2.0`, the reference's exponent. -/
theorem two_f32 : Ideal.ofBits .f32 0x40000000#32 = ((2 : ℝ) : EReal) := by
  simp [Ideal.ofBits, Ideal.ieee, -EReal.coe_mul]
  norm_num

/-- The absolute difference of two zero distance maps, squared, is zero everywhere. -/
theorem term_zero (j : S8x1x512x512.Idx) :
    Host.powf (Host.absf
      (subf
        (addf (broadcastInDim S8x1x512x512 ![] bcast_S_S8x1x512x512 (constant (F := Ideal) S_ .f32 0x00000000#32))
          (mulf (broadcastInDim S8x1x512x512 ![] bcast_S_S8x1x512x512 (constant (F := Ideal) S_ .f32 0x00000000#32)) fun _ => (0 : EReal)))
        (addf (broadcastInDim S8x1x512x512 ![] bcast_S_S8x1x512x512 (constant (F := Ideal) S_ .f32 0x00000000#32))
          (mulf (broadcastInDim S8x1x512x512 ![] bcast_S_S8x1x512x512 (constant (F := Ideal) S_ .f32 0x00000000#32)) fun _ => (0 : EReal)))))
      (broadcastInDim S8x1x512x512 ![] bcast_S_S8x1x512x512 (constant (F := Ideal) S_ .f32 0x40000000#32)) j = (0 : EReal) := by
  pointwise
  rw [two_f32, mul_zero, sub_zero, absf_zero, zero_pow_two]

variable (m : (ℓ : Loc nD τ sig) → Buf (Elt Ideal) ℓ) (ρ : Dev nD → PrngReg)

/-- After the run the result is zero and the arguments are as launched. -/
theorem run_zero : θ_run defs (onTc (τ := τ) (main (F := Ideal))) ⟨m, fun _ => 0, ρ⟩ fun r => ∀ c : Dev nD,
      r.2.mem ((c.tc : Thread nD τ).loc main_v255) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  rw [boundary_input, boundary_target]
  funext i
  pointwise
  rw [reduceAdd_zero]
  · exact zero_div_count
  · exact term_zero

/-- The reference terminates, leaves its arguments as launched, and, having no semaphore, ends with every counter zero. -/
theorem quiescent : Cert.quiescent_ReferenceIdeal := fun m ρ _ =>
  (θ_run defs _ _).mono (fun r h => ⟨fun c => (h c).2, sem_eq_zero_of_no_sems (by decide) r.2⟩) (run_zero m ρ)

end Cert.ReferenceIdeal.Loss

end
-- ==== Proof.lean ====
/-
  The certificate of the loss kernel: the frames of the kernel, its idealization and the reference, and the equality of
  the two results over the extended reals (Proof/Value.lean for the kernel, Proof/Reference.lean for the reference).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- Over the extended reals the kernel and the reference both return zero, whatever the arguments. -/
theorem algebraic : Cert.algebraic_KernelIdeal_ReferenceIdeal := fun m ρ m' ρ' _ _ =>
  ⟨fun _ _ => (0 : EReal), Cert.KernelIdeal.Loss.run_zero m ρ, Cert.ReferenceIdeal.Loss.run_zero m' ρ'⟩

/-- The certificate: the three frames, the idealization and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.ReferenceIdeal.Loss.quiescent,
  trivial, algebraic⟩

end Cert.Proof

end
